-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x13824 : Shape := ⟨3, ![8, 1024, 13824]⟩
abbrev S8x1024x1 : Shape := ⟨3, ![8, 1024, 1]⟩
abbrev S13824x5120 : Shape := ⟨2, ![13824, 5120]⟩
abbrev S5120 : Shape := ⟨1, ![5120]⟩
abbrev S8192x13824 : Shape := ⟨2, ![8192, 13824]⟩
abbrev S8192x1 : Shape := ⟨2, ![8192, 1]⟩
abbrev S1x5120 : Shape := ⟨2, ![1, 5120]⟩
abbrev S8192x5120 : Shape := ⟨2, ![8192, 5120]⟩
abbrev S1024x2304 : Shape := ⟨2, ![1024, 2304]⟩
abbrev S2304x1024 : Shape := ⟨2, ![2304, 1024]⟩
abbrev S1024x1 : Shape := ⟨2, ![1024, 1]⟩
abbrev S1x1024 : Shape := ⟨2, ![1, 1024]⟩
abbrev S1024x1024 : Shape := ⟨2, ![1024, 1024]⟩
abbrev S8x1024x5120 : Shape := ⟨3, ![8, 1024, 5120]⟩

abbrev nBuf : Space → Nat
  | .hbm => 9
  | .vmem => 11
  | .smem => 0
  | _ => 0

abbrev bufTy : (tb : Table) → Fin (tcTables nBuf tb) → BufTy
  | .hbm, ⟨0, _⟩ => ⟨S8x1024x13824, .fp8e4m3⟩
  | .hbm, ⟨1, _⟩ => ⟨S8x1024x1, .f32⟩
  | .hbm, ⟨2, _⟩ => ⟨S13824x5120, .fp8e4m3⟩
  | .hbm, ⟨3, _⟩ => ⟨S5120, .f32⟩
  | .hbm, ⟨4, _⟩ => ⟨S8192x13824, .fp8e4m3⟩
  | .hbm, ⟨5, _⟩ => ⟨S8192x1, .f32⟩
  | .hbm, ⟨6, _⟩ => ⟨S1x5120, .f32⟩
  | .hbm, ⟨7, _⟩ => ⟨S8192x5120, .bf16⟩
  | .hbm, ⟨8, _⟩ => ⟨S8x1024x5120, .bf16⟩
  | .local _ .vmem, ⟨0, _⟩ => ⟨S1024x2304, .fp8e4m3⟩
  | .local _ .vmem, ⟨1, _⟩ => ⟨S1024x2304, .fp8e4m3⟩
  | .local _ .vmem, ⟨2, _⟩ => ⟨S2304x1024, .fp8e4m3⟩
  | .local _ .vmem, ⟨3, _⟩ => ⟨S2304x1024, .fp8e4m3⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8x1024x13824, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 5, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S8x1024x13824 : Shape := ⟨3, ![8, 1024, 13824]⟩
abbrev S8x1024x1 : Shape := ⟨3, ![8, 1024, 1]⟩
abbrev S13824x5120 : Shape := ⟨2, ![13824, 5120]⟩
abbrev S5120 : Shape := ⟨1, ![5120]⟩
abbrev S8x1024x5120 : Shape := ⟨3, ![8, 1024, 5120]⟩
abbrev S1x1x5120 : Shape := ⟨3, ![1, 1, 5120]⟩

abbrev nBuf : Space → Nat
  | .hbm => 5
  | .vmem => 5
  | .smem => 0
  | _ => 0

abbrev bufTy : (tb : Table) → Fin (tcTables nBuf tb) → BufTy
  | .hbm, ⟨0, _⟩ => ⟨S8x1024x13824, .fp8e4m3⟩
  | .hbm, ⟨1, _⟩ => ⟨S8x1024x1, .f32⟩
  | .hbm, ⟨2, _⟩ => ⟨S13824x5120, .fp8e4m3⟩
  | .hbm, ⟨3, _⟩ => ⟨S5120, .f32⟩
  | .hbm, ⟨4, _⟩ => ⟨S8x1024x5120, .bf16⟩
  | .local _ .vmem, ⟨0, _⟩ => ⟨S8x1024x13824, .fp8e4m3⟩
  | .local _ .vmem, ⟨1, _⟩ => ⟨S8x1024x1, .f32⟩
  | .local _ .vmem, ⟨2, _⟩ => ⟨S13824x5120, .fp8e4m3⟩
  | .local _ .vmem, ⟨3, _⟩ => ⟨S5120, .f32⟩
  | .local _ .vmem, ⟨4, _⟩ => ⟨S8x1024x5120, .bf16⟩
  | _, _ => ⟨S8x1024x13824, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024x13824 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13824x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.TilePoint.lean ====
/-
  What one grid point of the tiled kernel leaves behind, as values.

  The body runs in three cases, by the position k of the point along the contracted axis (0 … 5).  The first point of a run
  stores the product of its two blocks in the scratch accumulator; every later point adds its product to the accumulator; the
  last point also writes the output block, the accumulator times the row scales times the column scales.
-/
module

public import proofs.«01_k».proof.Proof.Gen.KernelIdeal.Frame
public import Idealize.ShloMosaic.Lib.Pipeline.Value
public import Idealize.ShloMosaic.Lib.Tactic

@[expose] public section

noncomputable section

namespace Cert.KernelIdeal.Tile

open Cert.KernelIdeal Cert.KernelIdeal.Gen Idealize.ShloMosaic Idealize.ShloMosaic.TcCoe Idealize.SL.Sem

variable {F : FTy → Type} [FloatOps F]

/-- The offset (0, 0) every load and store of the body uses is the zero offset. -/
theorem hz : (![0, 0] : Fin 2 → Nat) = fun _ => 0 := funext fun a => by fin_cases a <;> rfl

/-- The first point of a run leaves the product of its two blocks in the accumulator. -/
theorem sout_A (c : Dev nD) (i : grid0.Coords) (a3 : Memref sig .tc .vmem S1024x2304 .fp8e4m3) (h3 : a3.IsWhole) (a4 : Memref sig .tc .vmem S2304x1024 .fp8e4m3) (h4 : a4.IsWhole)
    (a5 : Memref sig .tc .vmem S1024x1 .f32) (h5 : a5.IsWhole) (a6 : Memref sig .tc .vmem S1x1024 .f32) (h6 : a6.IsWhole) (a7 : Memref sig .tc .vmem S1024x1024 .bf16) (h7 : a7.IsWhole)
    (a8 : Memref sig .tc .vmem S1024x1024 .f32) (h8 : a8.IsWhole)
    (hc0 : cond0_0 i) (hc1 : ¬cond0_1 i) (hc2 : ¬cond0_2 i)
    (x0 : Vec F S1024x2304 .fp8e4m3) (x1 : Vec F S2304x1024 .fp8e4m3) (x2 : Vec F S1024x1 .f32) (x3 : Vec F S1x1024 .f32) :
    sout0_A_0 c i a3 h3 a4 h4 a5 h5 a6 h6 a7 h7 a8 h8 hc0 hc1 hc2 x0 x1 x2 x3 = k0_pay1 x0 x1 := by
  unfold sout0_A_0
  rw [View.read_writes_eq_canon _ _ _ (scover0_A_0 c i a3 h3 a4 h4 a5 h5 a6 h6 a7 h7 a8 h8 hc0 hc1 hc2 x0 x1 x2 x3)]
  unfold kernelRun0_A
  dsimp only
  try sl_unfold_words
  rw [View.canon_unit_zero hz]
  unfold k0_pay2
  simp only [View.readAt_eq_ld, h3.read_unread, h4.read_unread, h5.read_unread, h6.read_unread, h8.read_unread, View.ld_unit_zero (S := S1024x2304) hz, View.ld_unit_zero (S := S2304x1024) hz, View.ld_unit_zero (S := S1024x1) hz, View.ld_unit_zero (S := S1x1024) hz, View.ld_unit_zero (S := S1024x1024) hz, shapeCast_self]

/-- A middle point of a run adds the product of its two blocks to the accumulator. -/
theorem sout_B (c : Dev nD) (i : grid0.Coords) (a3 : Memref sig .tc .vmem S1024x2304 .fp8e4m3) (h3 : a3.IsWhole) (a4 : Memref sig .tc .vmem S2304x1024 .fp8e4m3) (h4 : a4.IsWhole)
    (a5 : Memref sig .tc .vmem S1024x1 .f32) (h5 : a5.IsWhole) (a6 : Memref sig .tc .vmem S1x1024 .f32) (h6 : a6.IsWhole) (a7 : Memref sig .tc .vmem S1024x1024 .bf16) (h7 : a7.IsWhole)
    (a8 : Memref sig .tc .vmem S1024x1024 .f32) (h8 : a8.IsWhole)
    (hc0 : ¬cond0_0 i) (hc1 : cond0_1 i) (hc2 : ¬cond0_2 i)
    (x0 : Vec F S1024x2304 .fp8e4m3) (x1 : Vec F S2304x1024 .fp8e4m3) (x2 : Vec F S1024x1 .f32) (x3 : Vec F S1x1024 .f32) (xs : Vec F S1024x1024 .f32) :
    sout0_B_0 c i a3 h3 a4 h4 a5 h5 a6 h6 a7 h7 a8 h8 hc0 hc1 hc2 x0 x1 x2 x3 xs = addf xs (k0_pay1 x0 x1) := by
  unfold sout0_B_0
  rw [View.read_writes_eq_canon _ _ _ (scover0_B_0 c i a3 h3 a4 h4 a5 h5 a6 h6 a7 h7 a8 h8 hc0 hc1 hc2 x0 x1 x2 x3 xs)]
  unfold kernelRun0_B
  dsimp only
  try sl_unfold_words
  rw [View.canon_unit_zero hz]
  unfold k0_pay3
  simp only [View.readAt_eq_ld, h3.read_unread, h4.read_unread, h5.read_unread, h6.read_unread, h8.read_unread, View.ld_unit_zero (S := S1024x2304) hz, View.ld_unit_zero (S := S2304x1024) hz, View.ld_unit_zero (S := S1024x1) hz, View.ld_unit_zero (S := S1x1024) hz, View.ld_unit_zero (S := S1024x1024) hz, shapeCast_self]

/-- The last point of a run adds the product of its two blocks to the accumulator too. -/
theorem sout_C (c : Dev nD) (i : grid0.Coords) (a3 : Memref sig .tc .vmem S1024x2304 .fp8e4m3) (h3 : a3.IsWhole) (a4 : Memref sig .tc .vmem S2304x1024 .fp8e4m3) (h4 : a4.IsWhole)
    (a5 : Memref sig .tc .vmem S1024x1 .f32) (h5 : a5.IsWhole) (a6 : Memref sig .tc .vmem S1x1024 .f32) (h6 : a6.IsWhole) (a7 : Memref sig .tc .vmem S1024x1024 .bf16) (h7 : a7.IsWhole)
    (a8 : Memref sig .tc .vmem S1024x1024 .f32) (h8 : a8.IsWhole)
    (hc0 : ¬cond0_0 i) (hc1 : cond0_1 i) (hc2 : cond0_2 i)
    (x0 : Vec F S1024x2304 .fp8e4m3) (x1 : Vec F S2304x1024 .fp8e4m3) (x2 : Vec F S1024x1 .f32) (x3 : Vec F S1x1024 .f32) (xs : Vec F S1024x1024 .f32) :
    sout0_C_0 c i a3 h3 a4 h4 a5 h5 a6 h6 a7 h7 a8 h8 hc0 hc1 hc2 x0 x1 x2 x3 xs = addf xs (k0_pay1 x0 x1) := by
  unfold sout0_C_0
  rw [View.read_writes_eq_canon _ _ _ (scover0_C_0 c i a3 h3 a4 h4 a5 h5 a6 h6 a7 h7 a8 h8 hc0 hc1 hc2 x0 x1 x2 x3 xs)]
  unfold kernelRun0_C
  dsimp only
  try sl_unfold_words
  rw [View.canon_unit_zero hz]
  unfold k0_pay3
  simp only [View.readAt_eq_ld, h3.read_unread, h4.read_unread, h5.read_unread, h6.read_unread, h8.read_unread, View.ld_unit_zero (S := S1024x2304) hz, View.ld_unit_zero (S := S2304x1024) hz, View.ld_unit_zero (S := S1024x1) hz, View.ld_unit_zero (S := S1x1024) hz, View.ld_unit_zero (S := S1024x1024) hz, shapeCast_self]

/-- The last point of a run writes the output block: the finished accumulator, scaled. -/
theorem out_C (c : Dev nD) (i : grid0.Coords) (a3 : Memref sig .tc .vmem S1024x2304 .fp8e4m3) (h3 : a3.IsWhole) (a4 : Memref sig .tc .vmem S2304x1024 .fp8e4m3) (h4 : a4.IsWhole)
    (a5 : Memref sig .tc .vmem S1024x1 .f32) (h5 : a5.IsWhole) (a6 : Memref sig .tc .vmem S1x1024 .f32) (h6 : a6.IsWhole) (a7 : Memref sig .tc .vmem S1024x1024 .bf16) (h7 : a7.IsWhole)
    (a8 : Memref sig .tc .vmem S1024x1024 .f32) (h8 : a8.IsWhole)
    (hc0 : ¬cond0_0 i) (hc1 : cond0_1 i) (hc2 : cond0_2 i)
    (x0 : Vec F S1024x2304 .fp8e4m3) (x1 : Vec F S2304x1024 .fp8e4m3) (x2 : Vec F S1024x1 .f32) (x3 : Vec F S1x1024 .f32) (xs : Vec F S1024x1024 .f32) :
    out0_C_4 c i a3 h3 a4 h4 a5 h5 a6 h6 a7 h7 a8 h8 hc0 hc1 hc2 x0 x1 x2 x3 xs = k0_pay4 (addf xs (k0_pay1 x0 x1)) x2 x3 := by
  unfold out0_C_4
  rw [View.read_writes_eq_canon _ _ _ (cover0_C_4 c i a3 h3 a4 h4 a5 h5 a6 h6 a7 h7 a8 h8 hc0 hc1 hc2 x0 x1 x2 x3 xs)]
  unfold kernelRun0_C
  dsimp only
  sl_unfold_words
  rw [View.canon_unit_zero hz, View.readCov_unit_zero (S := S1024x1024) _ hz]
  unfold k0_pay3
  simp only [View.readAt_eq_ld, h3.read_unread, h4.read_unread, h5.read_unread, h6.read_unread, h8.read_unread, View.ld_unit_zero (S := S1024x2304) hz, View.ld_unit_zero (S := S2304x1024) hz, View.ld_unit_zero (S := S1024x1) hz, View.ld_unit_zero (S := S1x1024) hz, View.ld_unit_zero (S := S1024x1024) hz, shapeCast_self]

variable (m : (ℓ : Loc nD τ sig) → Buf (Elt F) ℓ)

/-- The accumulator after the first point of a run. -/
theorem scratch_first (c : Dev nD) (t : Fin cfg0.N) (h0 : t.val % 6 = 0) :
    (outsAt0 m c t.val t.isLt).2 = k0_pay1 (iblk m c 0 t) (iblk m c 1 t) := by
  rw [outsAt0_A m c t h0 (by omega) (by omega)]
  dsimp only
  rw [sout_A]

/-- The accumulator after any later point of a run: what the point before left, plus this point's product. -/
theorem scratch_next (c : Dev nD) (t : Fin cfg0.N) (h0 : ¬t.val % 6 = 0) :
    (outsAt0 m c t.val t.isLt).2
      = addf (outsAt0 m c (t.val - 1) (Nat.lt_of_le_of_lt (Nat.sub_le _ _) t.isLt)).2 (k0_pay1 (iblk m c 0 t) (iblk m c 1 t)) := by
  by_cases h2 : t.val % 6 = 5
  · rw [outsAt0_C m c t h0 (by omega) h2]
    dsimp only
    rw [sout_C]
  · rw [outsAt0_B m c t h0 (by omega) h2]
    dsimp only
    rw [sout_B]

/-- The output block at the last point of a run: the finished accumulator, scaled. -/
theorem out_last (c : Dev nD) (t : Fin cfg0.N) (h2 : t.val % 6 = 5) :
    (outsAt0 m c t.val t.isLt).1 = k0_pay4 (outsAt0 m c t.val t.isLt).2 (iblk m c 2 t) (iblk m c 3 t) := by
  rw [scratch_next m c t (by omega), outsAt0_C m c t (by omega) (by omega) h2]
  dsimp only
  rw [out_C]

end Cert.KernelIdeal.Tile

end
-- ==== Proof.TileSum.lean ====
/-
  The tiled kernel's whole result matrix over the extended reals.

  The grid is 8 row blocks × 5 column blocks × 6 blocks of the contracted axis, the last one fastest.  After the point at
  position k of a run the accumulator holds, at (r, n), the sum of the first 2304·(k + 1) products of row r and column n
  (`scratch_apply`); at the last point that is the whole inner product, and the block written is it times the two scales
  (`outBlock_apply`).  The 40 written blocks tile the result matrix, so the whole matrix is `product` (`final`).
-/
module

public import proofs.«01_k».proof.Proof.TilePoint
public import Idealize.ShloMosaic.Lib.Pointwise

@[expose] public section

noncomputable section

namespace Cert.KernelIdeal.Tile

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The 8192 × 13824 left matrix the tiles are cut from. -/
abbrev lhs (c : Dev nD) : Vec Ideal S8192x13824 .fp8e4m3 := V m c main_v0
/-- The 13824 × 5120 right matrix. -/
abbrev rhs (c : Dev nD) : Vec Ideal S13824x5120 .fp8e4m3 := V m c main_arg2
/-- The scale of each row, as a column. -/
abbrev rowScale (c : Dev nD) : Vec Ideal S8192x1 .f32 := V m c main_v1
/-- The scale of each column, as a row. -/
abbrev colScale (c : Dev nD) : Vec Ideal S1x5120 .f32 := V m c main_v2

/-- The p-th term of the inner product of row R and column C (zero past the end of the axis). -/
def term (c : Dev nD) (R : Fin 8192) (C : Fin 5120) (p : ℕ) : EReal :=
  if h : p < 13824 then lhs m c (ix2 R ⟨p, h⟩) * rhs m c (ix2 ⟨p, h⟩ C) else 0

/-- The whole result matrix: each inner product times its row's scale times its column's scale. -/
def product (c : Dev nD) : Vec Ideal S8192x5120 .bf16 := fun i =>
  (∑ k : Fin 13824, lhs m c (ix2 (i 0) k) * rhs m c (ix2 k (i 1)))
    * rowScale m c (ix2 (i 0) 0) * colScale m c (ix2 0 (i 1))

/-- The terms of all positions below 13824 add up to the inner product. -/
theorem sum_term (c : Dev nD) (R : Fin 8192) (C : Fin 5120) :
    ∑ p ∈ Finset.range 13824, term m c R C p = ∑ k : Fin 13824, lhs m c (ix2 R k) * rhs m c (ix2 k C) := by
  rw [Finset.sum_range]
  exact Finset.sum_congr rfl fun k _ => dif_pos k.isLt

/-! ## Where each block lies -/

/-- The block numbers at grid point t: row block t / 30, column block t / 6 mod 5, contracted block t mod 6. -/
theorem index_facts : ∀ t : Fin cfg0.N,
    (win0_0.index t (0 : Fin 2) = t.val / 30 ∧ win0_0.index t (1 : Fin 2) = t.val % 6)
    ∧ (win0_1.index t (0 : Fin 2) = t.val % 6 ∧ win0_1.index t (1 : Fin 2) = t.val / 6 % 5)
    ∧ (win0_2.index t (0 : Fin 2) = t.val / 30 ∧ win0_2.index t (1 : Fin 2) = 0)
    ∧ (win0_3.index t (0 : Fin 2) = 0 ∧ win0_3.index t (1 : Fin 2) = t.val / 6 % 5)
    ∧ (win0_4.index t (0 : Fin 2) = t.val / 30 ∧ win0_4.index t (1 : Fin 2) = t.val / 6 % 5) :=
  (by decide +kernel : ∀ t : Fin grid0.N, _)

/-- The grid has 240 points. -/
theorem lt_240 (t : Fin cfg0.N) : t.val < 240 := lt_of_lt_of_eq t.isLt N_0

/-- Row r of the row block at point t, as a row of the whole matrix. -/
def row (t : Fin cfg0.N) (r : Fin 1024) : Fin 8192 := ⟨1024 * (t.val / 30) + r.val, by have := lt_240 t; omega⟩
/-- Column n of the column block at point t, as a column of the whole matrix. -/
def col (t : Fin cfg0.N) (n : Fin 1024) : Fin 5120 := ⟨1024 * (t.val / 6 % 5) + n.val, by omega⟩
/-- Position k of the contracted block at point t, as a position of the whole axis. -/
def pos (t : Fin cfg0.N) (k : Fin 2304) : Fin 13824 := ⟨2304 * (t.val % 6) + k.val, by omega⟩

/-- The left block at point t is the left matrix at its rows and positions. -/
theorem lhs_block (c : Dev nD) (t : Fin cfg0.N) (r : Fin 1024) (k : Fin 2304) :
    (iblk m c 0 t : Vec Ideal S1024x2304 .fp8e4m3) (ix2 r k) = lhs m c (ix2 (row t r) (pos t k)) := by
  obtain ⟨⟨e0, e1⟩, -⟩ := index_facts t
  show lhs m c (((cfg0.win 0).blk t).view.emb (ix2 r k)) = _
  refine congrArg (lhs m c) (funext fun a => Fin.ext ?_)
  match a with
  | ⟨0, _⟩ => show win0_0.index t (0 : Fin 2) * 1024 + 1 * r.val = 1024 * (t.val / 30) + r.val; omega
  | ⟨1, _⟩ => show win0_0.index t (1 : Fin 2) * 2304 + 1 * k.val = 2304 * (t.val % 6) + k.val; omega

/-- The right block at point t is the right matrix at its positions and columns. -/
theorem rhs_block (c : Dev nD) (t : Fin cfg0.N) (k : Fin 2304) (n : Fin 1024) :
    (iblk m c 1 t : Vec Ideal S2304x1024 .fp8e4m3) (ix2 k n) = rhs m c (ix2 (pos t k) (col t n)) := by
  obtain ⟨-, ⟨e0, e1⟩, -⟩ := index_facts t
  show rhs m c (((cfg0.win 1).blk t).view.emb (ix2 k n)) = _
  refine congrArg (rhs m c) (funext fun a => Fin.ext ?_)
  match a with
  | ⟨0, _⟩ => show win0_1.index t (0 : Fin 2) * 2304 + 1 * k.val = 2304 * (t.val % 6) + k.val; omega
  | ⟨1, _⟩ => show win0_1.index t (1 : Fin 2) * 1024 + 1 * n.val = 1024 * (t.val / 6 % 5) + n.val; omega

/-- The row-scale block at point t is the row scales at its rows. -/
theorem rowScale_block (c : Dev nD) (t : Fin cfg0.N) (r : Fin 1024) :
    (iblk m c 2 t : Vec Ideal S1024x1 .f32) (ix2 r 0) = rowScale m c (ix2 (row t r) 0) := by
  obtain ⟨-, -, ⟨e0, e1⟩, -⟩ := index_facts t
  show rowScale m c (((cfg0.win 2).blk t).view.emb (ix2 r 0)) = _
  refine congrArg (rowScale m c) (funext fun a => Fin.ext ?_)
  match a with
  | ⟨0, _⟩ => show win0_2.index t (0 : Fin 2) * 1024 + 1 * r.val = 1024 * (t.val / 30) + r.val; omega
  | ⟨1, _⟩ => show win0_2.index t (1 : Fin 2) * 1 + 1 * 0 = 0; omega

/-- The column-scale block at point t is the column scales at its columns. -/
theorem colScale_block (c : Dev nD) (t : Fin cfg0.N) (n : Fin 1024) :
    (iblk m c 3 t : Vec Ideal S1x1024 .f32) (ix2 0 n) = colScale m c (ix2 0 (col t n)) := by
  obtain ⟨-, -, -, ⟨e0, e1⟩, -⟩ := index_facts t
  show colScale m c (((cfg0.win 3).blk t).view.emb (ix2 0 n)) = _
  refine congrArg (colScale m c) (funext fun a => Fin.ext ?_)
  match a with
  | ⟨0, _⟩ => show win0_3.index t (0 : Fin 2) * 1 + 1 * 0 = 0; omega
  | ⟨1, _⟩ => show win0_3.index t (1 : Fin 2) * 1024 + 1 * n.val = 1024 * (t.val / 6 % 5) + n.val; omega

/-! ## The accumulator -/

/-- The product of a left and a right block, element by element. -/
theorem pay1_apply (x : Vec Ideal S1024x2304 .fp8e4m3) (w : Vec Ideal S2304x1024 .fp8e4m3) (r n : Fin 1024) :
    k0_pay1 x w (ix2 r n) = ∑ k : Fin 2304, x (ix2 r k) * w (ix2 k n) := by
  pointwise [k0_pay1]

/-- The product of the two blocks at point t is the next 2304 terms of the inner product. -/
theorem tile_apply (c : Dev nD) (t : Fin cfg0.N) (r n : Fin 1024) :
    k0_pay1 (iblk m c 0 t) (iblk m c 1 t) (ix2 r n)
      = ∑ p ∈ Finset.range 2304, term m c (row t r) (col t n) (2304 * (t.val % 6) + p) := by
  rw [pay1_apply, Finset.sum_range]
  refine Finset.sum_congr rfl fun k _ => ?_
  rw [lhs_block, rhs_block]
  unfold term
  rw [dif_pos (show 2304 * (t.val % 6) + k.val < 13824 from (pos t k).isLt)]
  rfl

/-- The accumulator after point t: the first 2304·(t mod 6 + 1) terms of each inner product. -/
theorem scratch_apply (c : Dev nD) (k : ℕ) : ∀ (t : Fin cfg0.N), t.val % 6 = k → ∀ r n : Fin 1024,
    (outsAt0 m c t.val t.isLt).2 (ix2 r n)
      = ∑ p ∈ Finset.range (2304 * k + 2304), term m c (row t r) (col t n) p := by
  induction k with
  | zero =>
    intro t hk r n
    rw [scratch_first m c t hk, tile_apply, hk]
    simp only [Nat.mul_zero, Nat.zero_add]
  | succ k ih =>
    intro t hk r n
    have hb := lt_240 t
    have hlt : t.val - 1 < cfg0.N := Nat.lt_of_le_of_lt (Nat.sub_le _ _) t.isLt
    have hpred := ih ⟨t.val - 1, hlt⟩ (by dsimp only; omega) r n
    have er : row ⟨t.val - 1, hlt⟩ r = row t r := Fin.ext (by dsimp only [row]; omega)
    have ec : col ⟨t.val - 1, hlt⟩ n = col t n := Fin.ext (by dsimp only [col]; omega)
    rw [er, ec] at hpred
    rw [scratch_next m c t (by omega), addf_apply, Ideal.addf_def, hpred, tile_apply, hk,
      show 2304 * (k + 1) = 2304 * k + 2304 from by omega, Finset.sum_range_add _ (2304 * k + 2304) 2304]

/-- The scaling of a finished accumulator, element by element. -/
theorem pay4_apply (a : Vec Ideal S1024x1024 .f32) (xs : Vec Ideal S1024x1 .f32) (ws : Vec Ideal S1x1024 .f32) (r n : Fin 1024) :
    k0_pay4 a xs ws (ix2 r n) = a (ix2 r n) * xs (ix2 r 0) * ws (ix2 0 n) := by
  pointwise [k0_pay4]

/-- The block written at the last point of a run is the result matrix at that block. -/
theorem outBlock_apply (c : Dev nD) (t : Fin cfg0.N) (ht : t.val % 6 = 5) (r n : Fin 1024) :
    (outsAt0 m c t.val t.isLt).1 (ix2 r n) = product m c (ix2 (row t r) (col t n)) := by
  rw [out_last m c t ht, pay4_apply, scratch_apply m c 5 t ht, rowScale_block, colScale_block, show 2304 * 5 + 2304 = 13824 from rfl, sum_term]
  rfl

/-! ## The whole matrix -/

/-- What a writing point writes back is its block of the result matrix. -/
theorem flushed (c : Dev nD) (t : Fin cfg0.N) (hf : (cfg0.win 4).flush t = true) :
    (dats m 0 c).flushed 4 t = ((cfg0.win 4).blk t).view.read (Elt Ideal) (product m c) := by
  obtain ⟨-, -, -, -, e0, e1⟩ := index_facts t
  have ht : t.val % 6 = 5 := (flush0_4 t).mp hf
  show (cfg0.win 4).cut (grid0.coords t) ((dats m 0 c).after 4 t) = _
  rw [after0_4]
  funext y
  have hy0 : (y 0).val < 1024 := (y 0).isLt
  have hy1 : (y 1).val < 1024 := (y 1).isLt
  have hl : (cfg0.win 4).xinj (grid0.coords t) y = (ix2 (⟨(y 0).val, hy0⟩ : Fin 1024) (⟨(y 1).val, hy1⟩ : Fin 1024) : S1024x1024.Idx) := by
    funext a; apply Fin.ext
    match a with
    | ⟨0, _⟩ => rfl
    | ⟨1, _⟩ => rfl
  have hr : ((cfg0.win 4).blk t).view.emb y = (ix2 (row t ⟨(y 0).val, hy0⟩) (col t ⟨(y 1).val, hy1⟩) : S8192x5120.Idx) := by
    funext a; apply Fin.ext
    match a with
    | ⟨0, _⟩ => show win0_4.index t (0 : Fin 2) * 1024 + 1 * (y 0).val = 1024 * (t.val / 30) + (y 0).val; omega
    | ⟨1, _⟩ => show win0_4.index t (1 : Fin 2) * 1024 + 1 * (y 1).val = 1024 * (t.val / 6 % 5) + (y 1).val; omega
  show (outsAt0 m c t.val t.isLt).1 ((cfg0.win 4).xinj (grid0.coords t) y) = product m c (((cfg0.win 4).blk t).view.emb y)
  rw [hl, hr]
  exact outBlock_apply m c t ht _ _

/-- An element of the result matrix is in the block of point t exactly when each coordinate is in the block's range. -/
theorem mem_block (t : Fin cfg0.N) (i : S8192x5120.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3).slice (win0_4.rect t)).set ↔ _
  rw [View.set_slice_whole, Rect.mem_set_unit]
  exact Iff.rfl

/-- Every element of the result matrix is in the block of some writing point. -/
theorem covered (i : S8192x5120.Idx) : ∃ t : Fin cfg0.N, (cfg0.win 4).flush t = true ∧ i ∈ ((cfg0.win 4).blk t).view.set := by
  have hi0 : (i 0).val < 8192 := (i 0).isLt
  have hi1 : (i 1).val < 5120 := (i 1).isLt
  have hlt : 6 * (5 * ((i 0).val / 1024) + (i 1).val / 1024) + 5 < cfg0.N := by rw [show cfg0.N = 240 from N_0]; omega
  obtain ⟨-, -, -, -, e0, e1⟩ := index_facts ⟨6 * (5 * ((i 0).val / 1024) + (i 1).val / 1024) + 5, hlt⟩
  refine ⟨⟨6 * (5 * ((i 0).val / 1024) + (i 1).val / 1024) + 5, hlt⟩, (flush0_4 _).mpr (by dsimp only; omega), ?_⟩
  rw [mem_block]
  dsimp only at e0 e1
  intro a
  match a with
  | ⟨0, _⟩ => show win0_4.index _ (0 : Fin 2) * 1024 ≤ (i 0).val ∧ (i 0).val < win0_4.index _ (0 : Fin 2) * 1024 + 1024; omega
  | ⟨1, _⟩ => show win0_4.index _ (1 : Fin 2) * 1024 ≤ (i 1).val ∧ (i 1).val < win0_4.index _ (1 : Fin 2) * 1024 + 1024; omega

/-- After the last point the result matrix is `product`, everywhere. -/
theorem final (c : Dev nD) : (dats m 0 c).arrAt 4 cfg0.N = product m c :=
  (dats m 0 c).arrAt_eq_of_cover 4 _ (flushed m c) covered

end Cert.KernelIdeal.Tile

end
-- ==== Proof.TileRun.lean ====
/-
  The kernel's run over the extended reals, from its arguments to its result.

  Before the tiled region the arguments x, x_scale and w_scale are reshaped to matrices; after it the 8192 × 5120 result matrix
  is reshaped to 8 × 1024 × 5120.  A reshape keeps the row-major order, so row (b, s) of x is row 1024·b + s of the left matrix
  and row 1024·b + s of the result matrix is row (b, s) of the result (`result_apply`).
-/
module

public import proofs.«01_k».proof.Proof.TileSum
public import Idealize.ShloMosaic.Lib.StableHlo.Run

@[expose] public section

noncomputable section

namespace Cert.KernelIdeal.Tile

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The argument x as launched. -/
abbrev argX (c : Dev nD) : Vec Ideal S8x1024x13824 .fp8e4m3 := m ((c : Thread nD τ).loc main_arg0)
/-- The argument x_scale as launched. -/
abbrev argXs (c : Dev nD) : Vec Ideal S8x1024x1 .f32 := m ((c : Thread nD τ).loc main_arg1)
/-- The argument w as launched. -/
abbrev argW (c : Dev nD) : Vec Ideal S13824x5120 .fp8e4m3 := m ((c : Thread nD τ).loc main_arg2)
/-- The argument w_scale as launched. -/
abbrev argWs (c : Dev nD) : Vec Ideal S5120 .f32 := m ((c : Thread nD τ).loc main_arg3)

/-! ## The reshapes before the region -/

/-- The left matrix is x reshaped. -/
theorem lhs_eq (c : Dev nD) : lhs m c = shapeCast S8192x13824 (argX m c) shapeCasts_S8x1024x13824_S8192x13824 := by
  dsimp only [lhs, V, V0, hostOps0, List.flatten_cons, List.flatten_nil, List.append_nil, List.cons_append, List.nil_append]
  after_results
  rfl

/-- The row scales are x_scale reshaped. -/
theorem rowScale_eq (c : Dev nD) : rowScale m c = shapeCast S8192x1 (argXs m c) shapeCasts_S8x1024x1_S8192x1 := by
  dsimp only [rowScale, V, V0, hostOps0, List.flatten_cons, List.flatten_nil, List.append_nil, List.cons_append, List.nil_append]
  after_results
  rfl

/-- The column scales are w_scale reshaped. -/
theorem colScale_eq (c : Dev nD) : colScale m c = shapeCast S1x5120 (argWs m c) shapeCasts_S5120_S1x5120 := by
  dsimp only [colScale, V, V0, hostOps0, List.flatten_cons, List.flatten_nil, List.append_nil, List.cons_append, List.nil_append]
  after_results
  rfl

/-- The right matrix is w, untouched. -/
theorem rhs_eq (c : Dev nD) : rhs m c = argW m c := V_main_arg2 m c

/-! ## The reshape after the region -/

/-- The kernel's result: the result matrix reshaped. -/
def result (c : Dev nD) : Vec Ideal S8x1024x5120 .bf16 :=
  shapeCast S8x1024x5120 (product m c) shapeCasts_S8192x5120_S8x1024x5120

/-- What the last line leaves in the result buffer. -/
theorem tail_result (c : Dev nD) :
    Pipeline.afterTail₀ cfgs (dats m) 0 (V0 m) [hostOps1] c main_v4 = result m c := by
  unfold Pipeline.afterTail₀
  dsimp only [hostOps1, List.flatten_cons, List.flatten_nil, List.append_nil, List.cons_append, List.nil_append]
  after_results
  have h : Pipeline.withArrays (cfgs 0).spec c (V0 m c) (fun w => (dats m 0 c).arrAt w (cfgs 0).N) (Proc.devRef .tc main_v3)
      = product m c :=
    (Pipeline.withArrays_arr spec0 launch0.win.arr_inj c (V0 m c) _ 4).trans (final m c)
  exact congrArg (fun x : Vec Ideal S8192x5120 .bf16 => shapeCast S8x1024x5120 x shapeCasts_S8192x5120_S8x1024x5120) h

/-- The kernel's run: the result buffer ends at `result`, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h.1 c).2 main_v4 (Pipeline.mem_restRefs_of main_v4 (by decide) (by decide))).trans (tail_result m c), h.2 c⟩)
    (θ_run_and (run_main m ρ) (unchanged m ρ))

/-! ## The result at an index -/

/-- The left matrix at row 1024·b + s is x at (b, s). -/
theorem lhs_apply (c : Dev nD) (b : Fin 8) (s : Fin 1024) (k : Fin 13824) (h : 1024 * b.val + s.val < 8192) :
    lhs m c (ix2 ⟨1024 * b.val + s.val, h⟩ k) = argX m c (ix3 b s k) := by
  rw [lhs_eq]
  pointwise

/-- The row scale of row 1024·b + s is x_scale at (b, s). -/
theorem rowScale_apply (c : Dev nD) (b : Fin 8) (s : Fin 1024) (h : 1024 * b.val + s.val < 8192) :
    rowScale m c (ix2 ⟨1024 * b.val + s.val, h⟩ 0) = argXs m c (ix3 b s 0) := by
  rw [rowScale_eq]
  pointwise

/-- The column scale of column n is w_scale at n. -/
theorem colScale_apply (c : Dev nD) (n : Fin 5120) : colScale m c (ix2 0 n) = argWs m c (ix1 n) := by
  rw [colScale_eq]
  pointwise

/-- The result at (b, s, n): the inner product of x's row (b, s) and w's column n, times the two scales. -/
theorem result_apply (c : Dev nD) (b : Fin 8) (s : Fin 1024) (n : Fin 5120) :
    result m c (ix3 b s n)
      = (∑ k : Fin 13824, argX m c (ix3 b s k) * argW m c (ix2 k n)) * argXs m c (ix3 b s 0) * argWs m c (ix1 n) := by
  have h : 1024 * b.val + s.val < 8192 := by omega
  have e : result m c (ix3 b s n) = product m c (ix2 ⟨1024 * b.val + s.val, h⟩ n) := by
    unfold result
    pointwise
    congr 1
    funext a
    apply Fin.ext
    match a with
    | ⟨0, _⟩ => show b.val * 1024 + s.val = 1024 * b.val + s.val; omega
    | ⟨1, _⟩ => rfl
  rw [e, ← colScale_apply, ← rowScale_apply m c b s h, ← rhs_eq]
  simp only [← lhs_apply m c b s _ h]
  rfl

end Cert.KernelIdeal.Tile

end
-- ==== Proof.Equation.lean ====
/-
  The reference's result at an index, and that the kernel's result is the same.
-/
module

public import proofs.«01_k».proof.Proof.TileRun
public import proofs.«01_k».proof.Proof.Gen.ReferenceIdeal.Value

@[expose] public section

noncomputable section

namespace Cert.Equation

open Idealize.ShloMosaic Idealize.ShloMosaic.TcCoe Idealize.SL.Sem
open Cert.ReferenceIdeal (S8x1024x13824 S8x1024x1 S13824x5120 S5120 S8x1024x5120)

/-- The reference at (b, s, n): the inner product of x's row (b, s) and w's column n, times the two scales. -/
theorem reference_apply (x : Vec Ideal S8x1024x13824 .fp8e4m3) (xs : Vec Ideal S8x1024x1 .f32) (w : Vec Ideal S13824x5120 .fp8e4m3)
    (ws : Vec Ideal S5120 .f32) (b : Fin 8) (s : Fin 1024) (n : Fin 5120) :
    Cert.ReferenceIdeal.Gen.k0_pay1 x w xs ws (ix3 b s n)
      = (∑ k : Fin 13824, x (ix3 b s k) * w (ix2 k n)) * xs (ix3 b s 0) * ws (ix1 n) := by
  pointwise [Cert.ReferenceIdeal.Gen.k0_pay1]

/-- The kernel's result is the reference's function of the kernel's arguments. -/
theorem result_eq (m : (ℓ : Loc Cert.KernelIdeal.nD Cert.KernelIdeal.τ Cert.KernelIdeal.sig) → Buf (Elt Ideal) ℓ) (c : Dev Cert.KernelIdeal.nD) :
    Cert.KernelIdeal.Tile.result m c
      = Cert.ReferenceIdeal.Gen.k0_pay1 (Cert.KernelIdeal.Tile.argX m c) (Cert.KernelIdeal.Tile.argW m c)
          (Cert.KernelIdeal.Tile.argXs m c) (Cert.KernelIdeal.Tile.argWs m c) := by
  funext j
  obtain ⟨b, s, n, rfl⟩ : ∃ (b : Fin 8) (s : Fin 1024) (n : Fin 5120), j = ix3 b s n := ⟨j 0, j 1, j 2, eq_ix3 j⟩
  exact (Cert.KernelIdeal.Tile.result_apply m c b s n).trans (reference_apply _ _ _ _ b s n).symm

end Cert.Equation

end
-- ==== Proof.lean ====
/-
  The proof of `Cert.Claim` (Defs.lean).  The three frames are the generated ones; the idealized kernel is the kernel's own text, so
  there is nothing to preserve; the algebraic claim sets the kernel's run (Proof/TileRun.lean) beside the reference's run
  and closes with the equation of their results (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem

/-- The algebraic claim: both programs run, and from equal arguments they end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Tile.result m c, Cert.KernelIdeal.Tile.run m g, ?_⟩
  refine (θ_run (Cert.ReferenceIdeal.defs (F := Ideal)) _ _).mono (fun r h c => ?_) (Cert.ReferenceIdeal.Value.run (F := Ideal) m' g')
  obtain ⟨hv, h0, h1, h2, h3⟩ := h c
  obtain ⟨a0, a1, a2, a3⟩ := hargs c
  refine ⟨hv.trans ?_, h0, h1, h2, h3⟩
  rw [a0, a1, a2, a3]
  exact (Cert.Equation.result_eq m c).symm

/-- Everything claimed: the three programs run to completion and leave their arguments unchanged, the idealized kernel is the
    kernel itself, and it equals the reference over the extended reals. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Gen.frame m g, trivial, algebraic⟩

end Cert.Proof

end
